-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S256x1024x256 : Shape := ⟨3, ![256, 1024, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S256x1024x256 : S_.BroadcastsInDim S256x1024x256 (![] : Fin 0 → Fin S256x1024x256.rank)
  reducesTo_S256x1024x256_S_d0_1_2 : S256x1024x256.ReducesTo [0, 1, 2] S_
  h_S_ : 0 < S_.numel
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S256x1024x256 .f32) (main_arg1 : FVec F S256 .f32) (main_arg2 : FVec F S256 .f32) (main_arg3 : FVec F S256x64 .f32) (main_arg4 : FVec F S64 .f32) (main_arg5 : FVec F S64 .f32) (main_arg6 : FVec F S_ .f32) : IVec S_ 1 :=
  let main_v0 : FVec F S256x1024x256 .f32 := Host.absf main_arg0
  let main_cst : FVec F S_ .f32 := constant S_ .f32 0x7F800000#32
  let main_v1 : FVec F S256x1024x256 .f32 := broadcastInDim S256x1024x256 ![] bcast_S_S256x1024x256 main_cst
  let main_v2 : IVec S256x1024x256 1 := cmpf .olt main_v0 main_v1
  let main_c : IVec S_ 1 := constantI S_ 1 1#1
  let main_v3 : IVec S_ 1 := (fun x v => Host.reduce IntOp.andi x v reducesTo_S256x1024x256_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  main_v13
-- ==== Kernel.lean ====
abbrev S256x1024x256 : Shape := ⟨3, ![256, 1024, 256]⟩
abbrev S256 : Shape := ⟨1, ![256]⟩
abbrev S256x64 : Shape := ⟨2, ![256, 64]⟩
abbrev S64 : Shape := ⟨1, ![64]⟩
abbrev S_ : Shape := ⟨0, ![]⟩
abbrev S256x1 : Shape := ⟨2, ![256, 1]⟩
abbrev S256x65 : Shape := ⟨2, ![256, 65]⟩
abbrev S64x1 : Shape := ⟨2, ![64, 1]⟩
abbrev S1x64 : Shape := ⟨2, ![1, 64]⟩
abbrev S1x1 : Shape := ⟨2, ![1, 1]⟩
abbrev S16x16x256 : Shape := ⟨3, ![16, 16, 256]⟩
abbrev S16x16x1024 : Shape := ⟨3, ![16, 16, 1024]⟩
abbrev S16x1024x256 : Shape := ⟨3, ![16, 1024, 256]⟩
abbrev S1x16x256 : Shape := ⟨3, ![1, 16, 256]⟩
abbrev S1x16x1024 : Shape := ⟨3, ![1, 16, 1024]⟩
abbrev S1x256 : Shape := ⟨2, ![1, 256]⟩
abbrev S1x1024x256 : Shape := ⟨3, ![1, 1024, 256]⟩
abbrev S1024x256 : Shape := ⟨2, ![1024, 256]⟩
abbrev S65x1024 : Shape := ⟨2, ![65, 1024]⟩
abbrev S1x1024 : Shape := ⟨2, ![1, 1024]⟩
abbrev S64x1024 : Shape := ⟨2, ![64, 1024]⟩
abbrev S1 : Shape := ⟨1, ![1]⟩
abbrev S1x1x1024 : Shape := ⟨3, ![1, 1, 1024]⟩
abbrev S1x1x256 : Shape := ⟨3, ![1, 1, 256]⟩
abbrev S256x256 : Shape := ⟨2, ![256, 256]⟩
abbrev S256x1024 : Shape := ⟨2, ![256, 1024]⟩

abbrev nBuf : Space → Nat
  | .hbm => 26
  | .vmem => 11
  | .smem => 0
  | _ => 0

abbrev bufTy : (tb : Table) → Fin (tcTables nBuf tb) → BufTy
  | .hbm, ⟨0, _⟩ => ⟨S256x1024x256, .f32⟩
  | .hbm, ⟨1, _⟩ => ⟨S256, .f32⟩
  | .hbm, ⟨2, _⟩ => ⟨S256, .f32⟩
  | .hbm, ⟨3, _⟩ => ⟨S256x64, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S256x1, .f32⟩
  | .hbm, ⟨8, _⟩ => ⟨S256x64, .f32⟩
  | .hbm, ⟨9, _⟩ => ⟨S256x64, .f32⟩
  | .hbm, ⟨10, _⟩ => ⟨S_, .f32⟩
  | .hbm, ⟨11, _⟩ => ⟨S256x1, .f32⟩
  | .hbm, ⟨12, _⟩ => ⟨S256x65, .f32⟩
  | .hbm, ⟨13, _⟩ => ⟨S256x65, .bf16⟩
  | .hbm, ⟨14, _⟩ => ⟨S64, .f32⟩
  | .hbm, ⟨15, _⟩ => ⟨S64x1, .f32⟩
  | .hbm, ⟨16, _⟩ => ⟨S64, .f32⟩
  | .hbm, ⟨17, _⟩ => ⟨S64, .f32⟩
  | .hbm, ⟨18, _⟩ => ⟨S64x1, .f32⟩
  | .hbm, ⟨19, _⟩ => ⟨S1x64, .f32⟩
  | .hbm, ⟨20, _⟩ => ⟨S1x64, .bf16⟩
  | .hbm, ⟨21, _⟩ => ⟨S1x1, .f32⟩
  | .hbm, ⟨22, _⟩ => ⟨S16x16x256, .f32⟩
  | .hbm, ⟨23, _⟩ => ⟨S16x16x1024, .f32⟩
  | .hbm, ⟨24, _⟩ => ⟨S256x256, .f32⟩
  | .hbm, ⟨25, _⟩ => ⟨S256x1024, .f32⟩
  | .local _ .vmem, ⟨0, _⟩ => ⟨S16x1024x256, .f32⟩
  | .local _ .vmem, ⟨1, _⟩ => ⟨S16x1024x256, .f32⟩
  | .local _ .vmem, ⟨2, _⟩ => ⟨S256x65, .bf16⟩
  | .local _ .vmem, ⟨3, _⟩ => ⟨S64x1, .f32⟩
  | .local _ .vmem, ⟨4, _⟩ => ⟨S64x1, .f32⟩
  | .local _ .vmem, ⟨5, _⟩ => ⟨S1x64, .bf16⟩
  | .local _ .vmem, ⟨6, _⟩ => ⟨S1x1, .f32⟩
  | .local _ .vmem, ⟨7, _⟩ => ⟨S1x16x256, .f32⟩
  | .local _ .vmem, ⟨8, _⟩ => ⟨S1x16x256, .f32⟩
  | .local _ .vmem, ⟨9, _⟩ => ⟨S1x16x1024, .f32⟩
  | .local _ .vmem, ⟨10, _⟩ => ⟨S1x16x1024, .f32⟩
  | _, _ => ⟨S256x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x65 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S256x1024x256 : Shape := ⟨3, ![256, 1024, 256]⟩
abbrev S256 : Shape := ⟨1, ![256]⟩
abbrev S256x64 : Shape := ⟨2, ![256, 64]⟩
abbrev S64 : Shape := ⟨1, ![64]⟩
abbrev S_ : Shape := ⟨0, ![]⟩
abbrev S256x1024 : Shape := ⟨2, ![256, 1024]⟩
abbrev S256x1024x1 : Shape := ⟨3, ![256, 1024, 1]⟩
abbrev S1x1x256 : Shape := ⟨3, ![1, 1, 256]⟩
abbrev S256x1024x64 : Shape := ⟨3, ![256, 1024, 64]⟩
abbrev S1x1x64 : Shape := ⟨3, ![1, 1, 64]⟩
abbrev S256x1 : Shape := ⟨2, ![256, 1]⟩
abbrev S256x256 : Shape := ⟨2, ![256, 256]⟩

abbrev nBuf : Space → Nat
  | .hbm => 67
  | .vmem => 0
  | .smem => 0
  | _ => 0

abbrev bufTy : (tb : Table) → Fin (tcTables nBuf tb) → BufTy
  | .hbm, ⟨0, _⟩ => ⟨S256x1024x256, .f32⟩
  | .hbm, ⟨1, _⟩ => ⟨S256, .f32⟩
  | .hbm, ⟨2, _⟩ => ⟨S256, .f32⟩
  | .hbm, ⟨3, _⟩ => ⟨S256x64, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S_, .f32⟩
  | .hbm, ⟨8, _⟩ => ⟨S256x1024, .f32⟩
  | .hbm, ⟨9, _⟩ => ⟨S256x1024x1, .f32⟩
  | .hbm, ⟨10, _⟩ => ⟨S_, .f32⟩
  | .hbm, ⟨11, _⟩ => ⟨S256x1024x1, .f32⟩
  | .hbm, ⟨12, _⟩ => ⟨S256x1024x1, .f32⟩
  | .hbm, ⟨13, _⟩ => ⟨S256x1024x256, .f32⟩
  | .hbm, ⟨14, _⟩ => ⟨S256x1024x256, .f32⟩
  | .hbm, ⟨15, _⟩ => ⟨S256x1024x256, .f32⟩
  | .hbm, ⟨16, _⟩ => ⟨S_, .f32⟩
  | .hbm, ⟨17, _⟩ => ⟨S256x1024, .f32⟩
  | .hbm, ⟨18, _⟩ => ⟨S256x1024x1, .f32⟩
  | .hbm, ⟨19, _⟩ => ⟨S_, .f32⟩
  | .hbm, ⟨20, _⟩ => ⟨S256x1024x1, .f32⟩
  | .hbm, ⟨21, _⟩ => ⟨S256x1024x1, .f32⟩
  | .hbm, ⟨22, _⟩ => ⟨S256x1024x256, .f32⟩
  | .hbm, ⟨23, _⟩ => ⟨S256x1024x256, .f32⟩
  | .hbm, ⟨24, _⟩ => ⟨S_, .f32⟩
  | .hbm, ⟨25, _⟩ => ⟨S256x1024x1, .f32⟩
  | .hbm, ⟨26, _⟩ => ⟨S256x1024x1, .f32⟩
  | .hbm, ⟨27, _⟩ => ⟨S256x1024x1, .f32⟩
  | .hbm, ⟨28, _⟩ => ⟨S256x1024x256, .f32⟩
  | .hbm, ⟨29, _⟩ => ⟨S256x1024x256, .f32⟩
  | .hbm, ⟨30, _⟩ => ⟨S1x1x256, .f32⟩
  | .hbm, ⟨31, _⟩ => ⟨S256x1024x256, .f32⟩
  | .hbm, ⟨32, _⟩ => ⟨S256x1024x256, .f32⟩
  | .hbm, ⟨33, _⟩ => ⟨S1x1x256, .f32⟩
  | .hbm, ⟨34, _⟩ => ⟨S256x1024x256, .f32⟩
  | .hbm, ⟨35, _⟩ => ⟨S256x1024x256, .f32⟩
  | .hbm, ⟨36, _⟩ => ⟨S256x1024x64, .f32⟩
  | .hbm, ⟨37, _⟩ => ⟨S1x1x64, .f32⟩
  | .hbm, ⟨38, _⟩ => ⟨S256x1024x64, .f32⟩
  | .hbm, ⟨39, _⟩ => ⟨S256x1024x64, .f32⟩
  | .hbm, ⟨40, _⟩ => ⟨S_, .f32⟩
  | .hbm, ⟨41, _⟩ => ⟨S256x1024x64, .f32⟩
  | .hbm, ⟨42, _⟩ => ⟨S256x1024x64, .f32⟩
  | .hbm, ⟨43, _⟩ => ⟨S256x1024x64, .f32⟩
  | .hbm, ⟨44, _⟩ => ⟨S_, .f32⟩
  | .hbm, ⟨45, _⟩ => ⟨S256x1024x64, .f32⟩
  | .hbm, ⟨46, _⟩ => ⟨S256x1024x64, .f32⟩
  | .hbm, ⟨47, _⟩ => ⟨S256x1024x64, .f32⟩
  | .hbm, ⟨48, _⟩ => ⟨S256x1024x64, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S_, .f32⟩
  | .hbm, ⟨53, _⟩ => ⟨S256, .f32⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S256x1, .f32⟩
  | .hbm, ⟨58, _⟩ => ⟨S256x1024, .f32⟩
  | .hbm, ⟨59, _⟩ => ⟨S256x1024, .f32⟩
  | .hbm, ⟨60, _⟩ => ⟨S256x1024, .f32⟩
  | .hbm, ⟨61, _⟩ => ⟨S_, .f32⟩
  | .hbm, ⟨62, _⟩ => ⟨S256, .f32⟩
  | .hbm, ⟨63, _⟩ => ⟨S256x1, .f32⟩
  | .hbm, ⟨64, _⟩ => ⟨S256x1024, .f32⟩
  | .hbm, ⟨65, _⟩ => ⟨S256x1024, .f32⟩
  | .hbm, ⟨66, _⟩ => ⟨S256x256, .f32⟩
  | _, _ => ⟨S256x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Proof.Spec.lean ====
/- The two programs' formulas for ONE token and ONE sample, over plain functions of the extended reals: what a token's
   attention logit is in the kernel and in the reference, and the softmax both take over a sample's 1024 tokens.
   Nothing here mentions a program; the other modules show that the programs compute these. -/
module

public import Idealize.ShloMosaic.Lib.Pointwise

@[expose] public section

noncomputable section

open Idealize.ShloMosaic

namespace Cert.AttnPool

/-- The `f32` literal `1/256`. -/
abbrev litInv : EReal := Ideal.ofBits .f32 0x3B800000#32
/-- The `f32` literal `256`. -/
abbrev litD : EReal := Ideal.ofBits .f32 0x43800000#32
/-- The `f32` literal nearest `1e-5`. -/
abbrev litEps : EReal := Ideal.ofBits .f32 0x3727C5AC#32
/-- The `f32` literal `0.5`. -/
abbrev litHalf : EReal := Ideal.ofBits .f32 0x3F000000#32
/-- The `f32` literal nearest `1/√2`. -/
abbrev litInvSqrt2 : EReal := Ideal.ofBits .f32 0x3F3504F3#32
/-- The `f32` literal `-∞`. -/
abbrev litNegInf : EReal := Ideal.ofBits .f32 0xFF800000#32
/-- The `fp8` literal `1`. -/
abbrev litOne8 : EReal := Ideal.ofBits .fp8e4m3 0x38#8
/-- The `f32` literal `1`. -/
abbrev litOne : EReal := Ideal.ofBits .f32 0x3F800000#32

/-- The largest of a sample's logits. -/
def top (l : Fin 1024 → EReal) : EReal := Finset.univ.fold max litNegInf l

/-- The softmax of a sample's logits, at token `n`. -/
def softmax (l : Fin 1024 → EReal) (n : Fin 1024) : EReal :=
  Ideal.div (Ideal.exp (l n - top l)) (∑ k, Ideal.exp (l k - top l))

/-! ### The kernel's token -/

/-- The token's mean: the last column of `a`, which holds ones, times the token, over 256. -/
def kMean (a : Fin 256 → Fin 65 → EReal) (x : Fin 256 → EReal) : EReal := (∑ d, a d 64 * x d) * litInv

/-- The reciprocal standard deviation, from the mean of the squares less the square of the mean. -/
def kRs (a : Fin 256 → Fin 65 → EReal) (x : Fin 256 → EReal) : EReal :=
  Ideal.rsqrt ((∑ d, litOne8 * (x d * x d)) * litInv - kMean a x * kMean a x + litEps)

/-- The hidden unit `h` before its activation: the normalisation is applied after the first product. -/
def kHidden (a : Fin 256 → Fin 65 → EReal) (gw bw : Fin 64 → EReal) (x : Fin 256 → EReal) (h : Fin 64) : EReal :=
  kRs a x * ∑ d, a d (h.castLE (by decide)) * x d - kRs a x * kMean a x * gw h + bw h

/-- The token's logit. -/
def kLogit (a : Fin 256 → Fin 65 → EReal) (gw bw w2 : Fin 64 → EReal) (b2 : EReal) (x : Fin 256 → EReal) : EReal :=
  (∑ h, w2 h * (kHidden a gw bw x h * (litHalf * Ideal.erf (kHidden a gw bw x h * litInvSqrt2) + litHalf))) + b2

/-- The kernel's logit of equal operands. -/
theorem kLogit_congr {a a' : Fin 256 → Fin 65 → EReal} {gw gw' bw bw' w2 w2' : Fin 64 → EReal} {b2 b2' : EReal}
    {x x' : Fin 256 → EReal} (ha : a = a') (hg : gw = gw') (hb : bw = bw') (hw : w2 = w2') (h2 : b2 = b2')
    (hx : x = x') : kLogit a gw bw w2 b2 x = kLogit a' gw' bw' w2' b2' x' := by
  rw [ha, hg, hb, hw, h2, hx]

/-- The scaled first weight matrix with a column of ones appended. -/
def augmented (g : Fin 256 → EReal) (W : Fin 256 → Fin 64 → EReal) (d : Fin 256) (j : Fin 65) : EReal :=
  if h : (j : Nat) < 64 then W d ⟨j, h⟩ * g d else litOne

/-- The kernel's logit of a token, from the arguments as plain functions. -/
def argLogit (g be : Fin 256 → EReal) (W : Fin 256 → Fin 64 → EReal) (b1 w2 : Fin 64 → EReal) (b2 : EReal)
    (x : Fin 256 → EReal) : EReal :=
  kLogit (augmented g W) (fun h => ∑ d, g d * W d h) (fun h => (∑ d, be d * W d h) + b1 h) w2 b2 x

/-! ### The reference's token -/

/-- The token's mean. -/
def rMean (x : Fin 256 → EReal) : EReal := Ideal.div (∑ d, x d) litD

/-- The token's variance: the mean of the squared distances to the mean. -/
def rVar (x : Fin 256 → EReal) : EReal := Ideal.div (∑ d, (x d - rMean x) * (x d - rMean x)) litD

/-- The hidden unit `h` before its activation: the layer norm, then the first linear map. -/
def rHidden (g be : Fin 256 → EReal) (W : Fin 256 → Fin 64 → EReal) (b1 : Fin 64 → EReal) (x : Fin 256 → EReal)
    (h : Fin 64) : EReal :=
  (∑ d, ((x d - rMean x) * Ideal.rsqrt (rVar x + litEps) * g d + be d) * W d h) + b1 h

/-- The token's logit: the exact GELU of the hidden units, then the second linear map. -/
def rLogit (g be : Fin 256 → EReal) (W : Fin 256 → Fin 64 → EReal) (b1 w2 : Fin 64 → EReal) (b2 : EReal)
    (x : Fin 256 → EReal) : EReal :=
  (∑ h, litHalf * rHidden g be W b1 x h * Ideal.erfc (-rHidden g be W b1 x h * litInvSqrt2) * w2 h) + b2

end Cert.AttnPool
-- ==== Proof.Slab.lean ====
/- What the kernel computes for ONE sample. The body holds sixteen samples at a time and writes the same computation
   out for each; here it is written once, as a function of a sample's 1024x256 tokens, and read at an index. -/
module

public import proofs.«01_k».proof.Proof.Gen.KernelIdeal.Frame
public import proofs.«01_k».proof.Proof.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

open Cert.KernelIdeal Cert.KernelIdeal.Gen Cert.AttnPool

namespace Cert.KernelIdeal.Value

/-- A sample's logits. -/
def slabLogits (a : Vec Ideal S256x65 .bf16) (gw bw : Vec Ideal S64x1 .f32) (w2 : Vec Ideal S1x64 .bf16)
    (b2 : Vec Ideal S1x1 .f32) (x : Vec Ideal S1x1024x256 .f32) : FVec Ideal S1x1024 .f32 :=
  k0_pay18 (k0_pay5 gw) (k0_pay6 bw) (k0_pay7 w2) (k0_pay8 b2) (k0_pay15 a x) (k0_pay16 a x) (k0_pay17 a x)

/-- A sample's attention weights. -/
def slabWeights (a : Vec Ideal S256x65 .bf16) (gw bw : Vec Ideal S64x1 .f32) (w2 : Vec Ideal S1x64 .bf16)
    (b2 : Vec Ideal S1x1 .f32) (x : Vec Ideal S1x1024x256 .f32) : FVec Ideal S1x1x1024 .f32 :=
  k0_pay152 (slabLogits a gw bw w2 b2 x)

/-- A sample's weighted sum of its tokens. -/
def slabSummary (a : Vec Ideal S256x65 .bf16) (gw bw : Vec Ideal S64x1 .f32) (w2 : Vec Ideal S1x64 .bf16)
    (b2 : Vec Ideal S1x1 .f32) (x : Vec Ideal S1x1024x256 .f32) : FVec Ideal S1x1x256 .f32 :=
  k0_pay153 (k0_pay10 x) (slabLogits a gw bw w2 b2 x)

/-- The logit of token `n` of a sample, from that token and the five small operands as plain functions. -/
abbrev blockLogit (a : Vec Ideal S256x65 .bf16) (gw bw : Vec Ideal S64x1 .f32) (w2 : Vec Ideal S1x64 .bf16)
    (b2 : Vec Ideal S1x1 .f32) (x : Fin 256 → EReal) : EReal :=
  kLogit (fun d j => a (ix2 d j)) (fun h => gw (ix2 h 0)) (fun h => bw (ix2 h 0)) (fun h => w2 (ix2 0 h))
    (b2 (ix2 0 0)) x

/-- A sample's logit at token `n` is the kernel's formula of that token. -/
theorem slabLogits_apply (a : Vec Ideal S256x65 .bf16) (gw bw : Vec Ideal S64x1 .f32) (w2 : Vec Ideal S1x64 .bf16)
    (b2 : Vec Ideal S1x1 .f32) (x : Vec Ideal S1x1024x256 .f32) (n : Fin 1024) :
    slabLogits a gw bw w2 b2 x (ix2 0 n) = blockLogit a gw bw w2 b2 fun d => x (ix3 0 n d) := by
  pointwise [slabLogits, k0_pay18, k0_pay5, k0_pay6, k0_pay7, k0_pay8, k0_pay15, k0_pay16, k0_pay17, k0_pay11, k0_pay4,
    k0_pay9, k0_pay10]
  rfl

/-- A sample's weight at token `n` is the softmax of its logits there. -/
theorem slabWeights_apply (a : Vec Ideal S256x65 .bf16) (gw bw : Vec Ideal S64x1 .f32) (w2 : Vec Ideal S1x64 .bf16)
    (b2 : Vec Ideal S1x1 .f32) (x : Vec Ideal S1x1024x256 .f32) (n : Fin 1024) :
    slabWeights a gw bw w2 b2 x (ix3 0 0 n) = softmax (fun k => blockLogit a gw bw w2 b2 fun d => x (ix3 0 k d)) n := by
  simp only [← slabLogits_apply]
  unfold slabWeights
  generalize slabLogits a gw bw w2 b2 x = l
  pointwise [k0_pay152, k0_pay151]
  rfl

/-- A sample's summary at feature `d` is the sum of its tokens' features `d`, each times the token's weight. -/
theorem slabSummary_apply (a : Vec Ideal S256x65 .bf16) (gw bw : Vec Ideal S64x1 .f32) (w2 : Vec Ideal S1x64 .bf16)
    (b2 : Vec Ideal S1x1 .f32) (x : Vec Ideal S1x1024x256 .f32) (d : Fin 256) :
    slabSummary a gw bw w2 b2 x (ix3 0 0 d)
      = ∑ n, softmax (fun k => blockLogit a gw bw w2 b2 fun d => x (ix3 0 k d)) n * x (ix3 0 n d) := by
  simp only [← slabLogits_apply]
  unfold slabSummary
  generalize slabLogits a gw bw w2 b2 x = l
  pointwise [k0_pay153, k0_pay151, k0_pay10]
  rfl

/-- An index of one row of one block is named by its last coordinate. -/
theorem row_index {n : Nat} (x : (⟨3, ![1, 1, n]⟩ : Shape).Idx) (i : Fin n) (h : (x 2 : Nat) = i) : x = ix3 0 0 i := by
  funext a
  match a with
  | 0 => exact Subsingleton.elim (α := Fin 1) _ _
  | 1 => exact Subsingleton.elim (α := Fin 1) _ _
  | 2 => exact Fin.ext h

/-- Sample `s` of the sixteen as the body loads it: at its token `n` and feature `d`. -/
theorem sample_load (x0 : Vec Ideal S16x1024x256 .f32) (s : Fin 16) (k : Nat)
    (inb : ∀ a, (![k, 0, 0] : Fin 3 → Nat) a + S1x1024x256.size a ≤ S16x1024x256.size a) (hk : (s : Nat) = k) (n : Fin 1024) (d : Fin 256) :
    View.ld x0 (Rect.unit (s := S16x1024x256) ![k, 0, 0] S1x1024x256.size inb) (ix3 0 n d) = x0 (ix3 s n d) :=
  View.ld_unit_apply_of _ _ _ _ _ _ (by
    intro a
    match a with
    | 0 => exact hk
    | 1 => exact (Nat.zero_add _).symm
    | 2 => exact (Nat.zero_add _).symm)

/-- The block of weights the body stores, at sample `s` of the sixteen and token `n`. -/
theorem weights_block (x0 : Vec Ideal S16x1024x256 .f32) (x1 : Vec Ideal S256x65 .bf16) (x2 x3 : Vec Ideal S64x1 .f32)
    (x4 : Vec Ideal S1x64 .bf16) (x5 : Vec Ideal S1x1 .f32) (s : Fin 16) (n : Fin 1024) :
    out0_7 x0 x1 x2 x3 x4 x5 (ix3 0 s n)
      = softmax (fun k => blockLogit x1 x2 x3 x4 x5 fun d => x0 (ix3 s k d)) n := by
  have key : ∀ (k : Nat) (inb : ∀ a, (![k, 0, 0] : Fin 3 → Nat) a + S1x1024x256.size a ≤ S16x1024x256.size a)
      (x : S1x1x1024.Idx), (s : Nat) = k + x 1 → (x 2 : Nat) = n → ∀ w,
      w = slabWeights (View.ld x1 r0_0) (View.ld x2 r0_1) (View.ld x3 r0_1) (View.ld x4 r0_2) (View.ld x5 r0_3)
        (View.ld x0 (Rect.unit (s := S16x1024x256) ![k, 0, 0] S1x1024x256.size inb)) x →
      w = softmax (fun k => blockLogit x1 x2 x3 x4 x5 fun d => x0 (ix3 s k d)) n := by
    intro k inb x h1 h2 w hw
    obtain rfl := row_index x n h2
    subst hw
    rw [slabWeights_apply]
    simp only [sample_load x0 s k inb h1]
    simp (disch := decide) only [View.ld_unit_lit']
  suffices H : ∀ y : S1x16x1024.Idx, (y 1 : Nat) = s → (y 2 : Nat) = n → out0_7 x0 x1 x2 x3 x4 x5 y = _ from
    H _ rfl rfl
  intro y hs hn
  unfold out0_7
  canon_tiles x h
  case piece0 => exact key 15 _ x (by omega) (by omega) _ rfl
  case piece1 => exact key 14 _ x (by omega) (by omega) _ rfl
  case piece2 => exact key 13 _ x (by omega) (by omega) _ rfl
  case piece3 => exact key 12 _ x (by omega) (by omega) _ rfl
  case piece4 => exact key 11 _ x (by omega) (by omega) _ rfl
  case piece5 => exact key 10 _ x (by omega) (by omega) _ rfl
  case piece6 => exact key 9 _ x (by omega) (by omega) _ rfl
  case piece7 => exact key 8 _ x (by omega) (by omega) _ rfl
  case piece8 => exact key 7 _ x (by omega) (by omega) _ rfl
  case piece9 => exact key 6 _ x (by omega) (by omega) _ rfl
  case piece10 => exact key 5 _ x (by omega) (by omega) _ rfl
  case piece11 => exact key 4 _ x (by omega) (by omega) _ rfl
  case piece12 => exact key 3 _ x (by omega) (by omega) _ rfl
  case piece13 => exact key 2 _ x (by omega) (by omega) _ rfl
  case piece14 => exact key 1 _ x (by omega) (by omega) _ rfl
  case piece15 => exact key 0 _ x (by omega) (by omega) _ rfl

/-- The block of summaries the body stores, at sample `s` of the sixteen and feature `d`. -/
theorem summary_block (x0 : Vec Ideal S16x1024x256 .f32) (x1 : Vec Ideal S256x65 .bf16) (x2 x3 : Vec Ideal S64x1 .f32)
    (x4 : Vec Ideal S1x64 .bf16) (x5 : Vec Ideal S1x1 .f32) (s : Fin 16) (d : Fin 256) :
    out0_6 x0 x1 x2 x3 x4 x5 (ix3 0 s d)
      = ∑ n, softmax (fun k => blockLogit x1 x2 x3 x4 x5 fun d => x0 (ix3 s k d)) n * x0 (ix3 s n d) := by
  have key : ∀ (k : Nat) (inb : ∀ a, (![k, 0, 0] : Fin 3 → Nat) a + S1x1024x256.size a ≤ S16x1024x256.size a)
      (x : S1x1x256.Idx), (s : Nat) = k + x 1 → (x 2 : Nat) = d → ∀ w,
      w = slabSummary (View.ld x1 r0_0) (View.ld x2 r0_1) (View.ld x3 r0_1) (View.ld x4 r0_2) (View.ld x5 r0_3)
        (View.ld x0 (Rect.unit (s := S16x1024x256) ![k, 0, 0] S1x1024x256.size inb)) x →
      w = ∑ n, softmax (fun k => blockLogit x1 x2 x3 x4 x5 fun d => x0 (ix3 s k d)) n * x0 (ix3 s n d) := by
    intro k inb x h1 h2 w hw
    obtain rfl := row_index x d h2
    subst hw
    rw [slabSummary_apply]
    simp only [sample_load x0 s k inb h1]
    simp (disch := decide) only [View.ld_unit_lit']
  suffices H : ∀ y : S1x16x256.Idx, (y 1 : Nat) = s → (y 2 : Nat) = d → out0_6 x0 x1 x2 x3 x4 x5 y = _ from
    H _ rfl rfl
  intro y hs hn
  unfold out0_6
  canon_tiles x h
  case piece0 => exact key 15 _ x (by omega) (by omega) _ rfl
  case piece1 => exact key 14 _ x (by omega) (by omega) _ rfl
  case piece2 => exact key 13 _ x (by omega) (by omega) _ rfl
  case piece3 => exact key 12 _ x (by omega) (by omega) _ rfl
  case piece4 => exact key 11 _ x (by omega) (by omega) _ rfl
  case piece5 => exact key 10 _ x (by omega) (by omega) _ rfl
  case piece6 => exact key 9 _ x (by omega) (by omega) _ rfl
  case piece7 => exact key 8 _ x (by omega) (by omega) _ rfl
  case piece8 => exact key 7 _ x (by omega) (by omega) _ rfl
  case piece9 => exact key 6 _ x (by omega) (by omega) _ rfl
  case piece10 => exact key 5 _ x (by omega) (by omega) _ rfl
  case piece11 => exact key 4 _ x (by omega) (by omega) _ rfl
  case piece12 => exact key 3 _ x (by omega) (by omega) _ rfl
  case piece13 => exact key 2 _ x (by omega) (by omega) _ rfl
  case piece14 => exact key 1 _ x (by omega) (by omega) _ rfl
  case piece15 => exact key 0 _ x (by omega) (by omega) _ rfl

end Cert.KernelIdeal.Value
-- ==== Proof.Array.lean ====
/- What the kernel's two arrays hold after its last grid point, as formulas of the launch contents of its arguments. -/
module

public import proofs.«01_k».proof.Proof.Slab

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.AttnPool

namespace Cert.KernelIdeal.Value

variable (m : (ℓ : Loc nD τ sig) → Buf (Elt Ideal) ℓ)

/-- Where each window's block lies at grid point `t`: the tokens and both results move with `t`, the rest stay. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0]
    ∧ win0_6.index t = ![t.val, 0, 0] ∧ win0_7.index t = ![t.val, 0, 0] :=
  (by decide +kernel : ∀ t : Fin grid0.N, _)

section
variable (c : Dev nD)

/-- The tokens, as the launch finds them. -/
abbrev argX : FVec Ideal S256x1024x256 .f32 := m ((c : Thread nD τ).loc main_arg0)
/-- The layer norm's scale. -/
abbrev argG : FVec Ideal S256 .f32 := m ((c : Thread nD τ).loc main_arg1)
/-- The layer norm's shift. -/
abbrev argBE : FVec Ideal S256 .f32 := m ((c : Thread nD τ).loc main_arg2)
/-- The first weight matrix. -/
abbrev argW : FVec Ideal S256x64 .f32 := m ((c : Thread nD τ).loc main_arg3)
/-- The first bias. -/
abbrev argB1 : FVec Ideal S64 .f32 := m ((c : Thread nD τ).loc main_arg4)
/-- The second weight vector. -/
abbrev argW2 : FVec Ideal S64 .f32 := m ((c : Thread nD τ).loc main_arg5)
/-- The second bias. -/
abbrev argB2 : FVec Ideal S_ .f32 := m ((c : Thread nD τ).loc main_arg6)

/-- The first matrix when the region starts. -/
theorem entry_a (d : Fin 256) (j : Fin 65) :
    (show FVec Ideal S256x65 .bf16 from V m c main_v5) (ix2 d j) = augmented (fun d => argG m c (ix1 d)) (fun d h => argW m c (ix2 d h)) d j := by
  unfold V V0
  simp only [List.flatten_cons, List.flatten_nil, List.append_nil]
  entry_read
  pointwise [augmented]

/-- The scale times the first weight matrix. -/
theorem entry_gw (h : Fin 64) :
    (show FVec Ideal S64x1 .f32 from V m c main_v7) (ix2 h 0) = ∑ d, argG m c (ix1 d) * argW m c (ix2 d h) := by
  unfold V V0
  simp only [List.flatten_cons, List.flatten_nil, List.append_nil]
  entry_read
  pointwise

/-- The shift times the first weight matrix, plus the first bias. -/
theorem entry_bw (h : Fin 64) :
    (show FVec Ideal S64x1 .f32 from V m c main_v10) (ix2 h 0) = (∑ d, argBE m c (ix1 d) * argW m c (ix2 d h)) + argB1 m c (ix1 h) := by
  unfold V V0
  simp only [List.flatten_cons, List.flatten_nil, List.append_nil]
  entry_read
  pointwise

/-- The second weight vector, as a row. -/
theorem entry_w2 (h : Fin 64) :
    (show FVec Ideal S1x64 .bf16 from V m c main_v12) (ix2 0 h) = argW2 m c (ix1 h) := by
  unfold V V0
  simp only [List.flatten_cons, List.flatten_nil, List.append_nil]
  entry_read
  pointwise

/-- The second bias, as a one-by-one matrix. -/
theorem entry_b2 :
    (show FVec Ideal S1x1 .f32 from V m c main_v13) (ix2 0 0) = argB2 m c ix0 := by
  unfold V V0
  simp only [List.flatten_cons, List.flatten_nil, List.append_nil]
  entry_read
  pointwise

/-- The kernel's logit of token `n` of sample `b`. -/
def tokenLogit (b : Fin 256) (n : Fin 1024) : EReal :=
  argLogit (fun d => argG m c (ix1 d)) (fun d => argBE m c (ix1 d)) (fun d h => argW m c (ix2 d h))
    (fun h => argB1 m c (ix1 h)) (fun h => argW2 m c (ix1 h)) (argB2 m c ix0) fun d => argX m c (ix3 b n d)

/-- The token block at grid point `t` holds samples `16 t` to `16 t + 15`. -/
theorem block_x (t : Fin cfg0.N) (s : Fin 16) (n : Fin 1024) (d b : Fin 256) (hb : (b : Nat) = t * 16 + s) :
    (show FVec Ideal S16x1024x256 .f32 from iblk m c 0 t) (ix3 s n d) = argX m c (ix3 b n d) := by
  blk_point [iblk, V, idx t]

/-- The first matrix's block is the whole of it, at every grid point. -/
theorem block_a (t : Fin cfg0.N) (d : Fin 256) (j : Fin 65) :
    (show FVec Ideal S256x65 .bf16 from iblk m c 1 t) (ix2 d j)
      = (show FVec Ideal S256x65 .bf16 from V m c main_v5) (ix2 d j) := by
  blk_point [iblk, idx t]

/-- So is the block of the scale times the first weight matrix. -/
theorem block_gw (t : Fin cfg0.N) (h : Fin 64) :
    (show FVec Ideal S64x1 .f32 from iblk m c 2 t) (ix2 h 0)
      = (show FVec Ideal S64x1 .f32 from V m c main_v7) (ix2 h 0) := by
  blk_point [iblk, idx t]

/-- So is the block of the shift times the first weight matrix, plus the first bias. -/
theorem block_bw (t : Fin cfg0.N) (h : Fin 64) :
    (show FVec Ideal S64x1 .f32 from iblk m c 3 t) (ix2 h 0)
      = (show FVec Ideal S64x1 .f32 from V m c main_v10) (ix2 h 0) := by
  blk_point [iblk, idx t]

/-- So is the block of the second weight vector. -/
theorem block_w2 (t : Fin cfg0.N) (h : Fin 64) :
    (show FVec Ideal S1x64 .bf16 from iblk m c 4 t) (ix2 0 h)
      = (show FVec Ideal S1x64 .bf16 from V m c main_v12) (ix2 0 h) := by
  blk_point [iblk, idx t]

/-- So is the block of the second bias. -/
theorem block_b2 (t : Fin cfg0.N) :
    (show FVec Ideal S1x1 .f32 from iblk m c 5 t) (ix2 0 0)
      = (show FVec Ideal S1x1 .f32 from V m c main_v13) (ix2 0 0) := by
  blk_point [iblk, idx t]

/-- The logit the body computes at grid point `t` for sample `s` of its sixteen is that of sample `16 t + s`. -/
theorem blockLogit_eq (t : Fin cfg0.N) (s : Fin 16) (n : Fin 1024) (b : Fin 256) (hb : (b : Nat) = t * 16 + s) :
    blockLogit (iblk m c 1 t) (iblk m c 2 t) (iblk m c 3 t) (iblk m c 4 t) (iblk m c 5 t)
      (fun d => (show FVec Ideal S16x1024x256 .f32 from iblk m c 0 t) (ix3 s n d)) = tokenLogit m c b n :=
  kLogit_congr (funext fun d => funext fun j => (block_a m c t d j).trans (entry_a m c d j))
    (funext fun h => (block_gw m c t h).trans (entry_gw m c h))
    (funext fun h => (block_bw m c t h).trans (entry_bw m c h))
    (funext fun h => (block_w2 m c t h).trans (entry_w2 m c h))
    ((block_b2 m c t).trans (entry_b2 m c))
    (funext fun d => block_x m c t s n d b hb)

/-- The sample that lies at place `j 1` of block `j 0` of an array of sixteen blocks of sixteen samples. -/
abbrev sampleOf (i j : Fin 16) : Fin 256 := ⟨i.val * 16 + j.val, by omega⟩

/-- Block place `y` of the weights the body stores at grid point `t`, for the array place `j` it lands on. -/
theorem point_weights (t : Fin cfg0.N) (y : S1x16x1024.Idx) (j : S16x16x1024.Idx) (h0 : (j 0 : Nat) = t)
    (h1 : (j 1 : Nat) = y 1) (h2 : (j 2 : Nat) = y 2) :
    out0_7 (iblk m c 0 t) (iblk m c 1 t) (iblk m c 2 t) (iblk m c 3 t) (iblk m c 4 t) (iblk m c 5 t) y
      = softmax (tokenLogit m c (sampleOf (j 0) (j 1))) (j 2) := by
  have hy : y = ix3 0 (j 1) (j 2) := by
    funext a
    match a with
    | 0 => exact Subsingleton.elim (α := Fin 1) _ _
    | 1 => exact Fin.ext h1.symm
    | 2 => exact Fin.ext h2.symm
  have hb : ((sampleOf (j 0) (j 1) : Fin 256) : Nat) = t * 16 + (j 1 : Fin 16) := by
    show (j 0 : Nat) * 16 + (j 1 : Nat) = _; rw [h0]
  exact (congrArg _ hy).trans ((weights_block _ _ _ _ _ _ (j 1) (j 2)).trans
    (congrArg (softmax · (j 2)) (funext fun k => blockLogit_eq m c t (j 1) k _ hb)))

/-- Block place `y` of the summaries the body stores at grid point `t`, for the array place `j` it lands on. -/
theorem point_summary (t : Fin cfg0.N) (y : S1x16x256.Idx) (j : S16x16x256.Idx) (h0 : (j 0 : Nat) = t)
    (h1 : (j 1 : Nat) = y 1) (h2 : (j 2 : Nat) = y 2) :
    out0_6 (iblk m c 0 t) (iblk m c 1 t) (iblk m c 2 t) (iblk m c 3 t) (iblk m c 4 t) (iblk m c 5 t) y
      = ∑ n, softmax (tokenLogit m c (sampleOf (j 0) (j 1))) n
          * argX m c (ix3 (sampleOf (j 0) (j 1)) n (j 2)) := by
  have hy : y = ix3 0 (j 1) (j 2) := by
    funext a
    match a with
    | 0 => exact Subsingleton.elim (α := Fin 1) _ _
    | 1 => exact Fin.ext h1.symm
    | 2 => exact Fin.ext h2.symm
  have hb : ((sampleOf (j 0) (j 1) : Fin 256) : Nat) = t * 16 + (j 1 : Fin 16) := by
    show (j 0 : Nat) * 16 + (j 1 : Nat) = _; rw [h0]
  exact (congrArg _ hy).trans ((summary_block _ _ _ _ _ _ (j 1) (j 2)).trans
    (Finset.sum_congr rfl fun n _ => congrArg₂ (· * ·)
      (congrArg (softmax · n) (funext fun k => blockLogit_eq m c t (j 1) k _ hb))
      (block_x m c t (j 1) n (j 2) _ hb)))

/-- The weights' array after the last grid point. -/
theorem final_weights : (dats m 0 c).arrAt 7 (cfgs 0).N
    = fun j : S16x16x1024.Idx => softmax (tokenLogit m c (sampleOf (j 0) (j 1))) (j 2) := by
  refine (dats m 0 c).arrAt_eq_of_covers 7 _ (by decide +kernel) fun t _ y => ?_
  blk_simp [idx t]
  rw [after0_7]
  exact point_weights m c t y _ (by blk_simp [idx t]) (by blk_simp [idx t]) (by blk_simp [idx t])

/-- The summaries' array after the last grid point. -/
theorem final_summary : (dats m 0 c).arrAt 6 (cfgs 0).N
    = fun j : S16x16x256.Idx => ∑ n, softmax (tokenLogit m c (sampleOf (j 0) (j 1))) n
        * argX m c (ix3 (sampleOf (j 0) (j 1)) n (j 2)) := by
  refine (dats m 0 c).arrAt_eq_of_covers 6 _ (by decide +kernel) fun t _ y => ?_
  blk_simp [idx t]
  rw [after0_6]
  exact point_summary m c t y _ (by blk_simp [idx t]) (by blk_simp [idx t]) (by blk_simp [idx t])

end

end Cert.KernelIdeal.Value
-- ==== Proof.Result.lean ====
/- The kernel's run: each result array at its formula, the arguments as they were. -/
module

public import proofs.«01_k».proof.Proof.Array

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.AttnPool

namespace Cert.KernelIdeal.Value

variable (m : (ℓ : Loc nD τ sig) → Buf (Elt Ideal) ℓ)

/-- The attention weights: the softmax over each sample's tokens of their logits. -/
def attention (c : Dev nD) : FVec Ideal S256x1024 .f32 := fun i => softmax (tokenLogit m c (i 0)) (i 1)

/-- The summaries: each sample's tokens summed at its attention weights. -/
def summary (c : Dev nD) : FVec Ideal S256x256 .f32 := fun i =>
  ∑ n, softmax (tokenLogit m c (i 0)) n * argX m c (ix3 (i 0) n (i 1))

/-- The two leading coordinates that row `b` of a result is read from name sample `b`. -/
theorem sampleOf_row (b : Fin 256) (h1 : (b : Nat) / 16 < 16) (h2 : (b : Nat) % 16 < 16) :
    sampleOf ⟨(b : Nat) / 16, h1⟩ ⟨(b : Nat) % 16, h2⟩ = b := by
  apply Fin.ext
  show (b : Nat) / 16 * 16 + (b : Nat) % 16 = b
  omega

/-- An array of sixteen groups of sixteen rows, its two leading axes merged, lists the rows in the order of their samples. -/
theorem merged_rows {n : Nat} (f : Fin 256 → Fin n → EReal) (h : (⟨3, ![16, 16, n]⟩ : Shape).ShapeCasts ⟨2, ![256, n]⟩) :
    shapeCast (⟨2, ![256, n]⟩ : Shape) (fun j : (⟨3, ![16, 16, n]⟩ : Shape).Idx => f (sampleOf (j 0) (j 1)) (j 2)) h
      = fun i => f (i 0) (i 1) := by
  funext i
  have hi : (i 0 : Nat) < 256 := (i 0).isLt
  refine (shapeCast_apply _ h i (ix3 ⟨(i 0 : Nat) / 16, by omega⟩ ⟨(i 0 : Nat) % 16, by omega⟩ (i 1)) ?_).trans
    (congrArg (fun b => f b (i 1)) (sampleOf_row (i 0) _ _))
  rw [Shape.rowMajor_val_three, Shape.rowMajor_val_two]
  show ((i 0 : Nat) / 16 * 16 + (i 0 : Nat) % 16) * n + (i 1 : Nat) = (i 0 : Nat) * n + (i 1 : Nat)
  rw [Nat.div_add_mod' (i 0 : Nat) 16]

/-- After the last line of the program the second result holds the attention weights. -/
theorem tail_attention (c : Dev nD) :
    Pipeline.afterTail₀ cfgs (dats m) 0 (V0 m) [hostOps1] c main_v16 = attention m c := by
  unfold Pipeline.afterTail₀
  simp only [List.flatten_cons, List.flatten_nil, List.append_nil]
  after_results
  exact (congrArg (fun A : S16x16x1024.Idx → EReal => shapeCast S256x1024 A shapeCasts_S16x16x1024_S256x1024)
    ((Pipeline.withArrays_arr (cfgs 0).spec launch0.win.arr_inj c (V0 m c) (fun w => (dats m 0 c).arrAt w (cfgs 0).N) 7).trans
      (final_weights m c))).trans (merged_rows (fun b n => softmax (tokenLogit m c b) n) _)

/-- After the last line of the program the first result holds the summaries. -/
theorem tail_summary (c : Dev nD) :
    Pipeline.afterTail₀ cfgs (dats m) 0 (V0 m) [hostOps1] c main_v15 = summary m c := by
  unfold Pipeline.afterTail₀
  simp only [List.flatten_cons, List.flatten_nil, List.append_nil]
  after_results
  exact (congrArg (fun A : S16x16x256.Idx → EReal => shapeCast S256x256 A shapeCasts_S16x16x256_S256x256)
    ((Pipeline.withArrays_arr (cfgs 0).spec launch0.win.arr_inj c (V0 m c) (fun w => (dats m 0 c).arrAt w (cfgs 0).N) 6).trans
      (final_summary m c))).trans (merged_rows (fun b d => ∑ n, softmax (tokenLogit m c b) n * argX m c (ix3 b n d)) _)

/-- From any memory with zero counters, every weakly fair execution of the kernel's program ends with the summaries
    in its first result and the attention weights in its second. -/
theorem run (ρ : Dev nD → PrngReg) :
    θ_run defs (onTc (τ := τ) (main (F := Ideal))) ⟨m, fun _ => 0, ρ⟩ fun r => ∀ c : Dev nD,
      r.2.mem ((c.tc : Thread nD τ).loc main_v15) = summary m c
      ∧ r.2.mem ((c.tc : Thread nD τ).loc main_v16) = attention m c :=
  (θ_run defs _ _).mono (fun _ h c =>
    ⟨((h c).2 main_v15 (Pipeline.mem_restRefs_of main_v15 (by decide) (by decide))).trans (tail_summary m c),
     ((h c).2 main_v16 (Pipeline.mem_restRefs_of main_v16 (by decide) (by decide))).trans (tail_attention m c)⟩) (run_main m ρ)

end Cert.KernelIdeal.Value

end
-- ==== Proof.Reference.lean ====
/- What the reference computes: its logits, attention weights and summaries, each read at an index as the plain formula of
   one sample's tokens. -/
module

public import proofs.«01_k».proof.Proof.Gen.ReferenceIdeal.Run
public import proofs.«01_k».proof.Proof.Spec
public import Idealize.ShloMosaic.Lib.Pointwise

@[expose] public section

set_option maxRecDepth 16384

noncomputable section

open Idealize.ShloMosaic Idealize.ShloMosaic.TcCoe Idealize.SL.Sem

open Cert.ReferenceIdeal Cert.ReferenceIdeal.Gen Cert.AttnPool

namespace Cert.ReferenceIdeal.Value

/-- The array of token means, one per token, with a trailing unit axis. -/
def means (X : FVec Ideal S256x1024x256 .f32) : FVec Ideal S256x1024x1 .f32 :=
  Host.divf (broadcastInDim S256x1024x1 ![0, 1] bcast_S256x1024_S256x1024x1_0_1
    (Host.reduceAdd X (constant S_ .f32 0x00000000#32) reducesTo_S256x1024x256_S256x1024_d2 h_S_))
    (broadcastInDim S256x1024x1 ![] bcast_S_S256x1024x1 (constant S_ .f32 0x43800000#32))

/-- The tokens less their means. -/
def centred (X : FVec Ideal S256x1024x256 .f32) : FVec Ideal S256x1024x256 .f32 :=
  subf X (broadcastInDim S256x1024x256 ![0, 1, 2] bcast_S256x1024x1_S256x1024x256_0_1_2 (means X))

/-- The token variances. -/
def variances (X : FVec Ideal S256x1024x256 .f32) : FVec Ideal S256x1024x1 .f32 :=
  Host.divf (broadcastInDim S256x1024x1 ![0, 1] bcast_S256x1024_S256x1024x1_0_1
    (Host.reduceAdd (mulf (centred X) (centred X)) (constant S_ .f32 0x00000000#32)
      reducesTo_S256x1024x256_S256x1024_d2 h_S_))
    (broadcastInDim S256x1024x1 ![] bcast_S_S256x1024x1 (constant S_ .f32 0x43800000#32))

/-- The hidden units before their activation. -/
def hidden (X : FVec Ideal S256x1024x256 .f32) (G BE : FVec Ideal S256 .f32) (W : FVec Ideal S256x64 .f32)
    (B1 : FVec Ideal S64 .f32) : FVec Ideal S256x1024x64 .f32 :=
  addf (Host.dotGeneral dot_S256x1024x256_S256x64_S256x1024x64_2_0_01_1_n_n none
    (addf (mulf (mulf (centred X)
        (broadcastInDim S256x1024x256 ![0, 1, 2] bcast_S256x1024x1_S256x1024x256_0_1_2
          (Host.rsqrt (addf (variances X)
            (broadcastInDim S256x1024x1 ![] bcast_S_S256x1024x1 (constant S_ .f32 0x3727C5AC#32))))))
      (broadcastInDim S256x1024x256 ![0, 1, 2] bcast_S1x1x256_S256x1024x256_0_1_2
        (broadcastInDim S1x1x256 ![2] bcast_S256_S1x1x256_2 G)))
      (broadcastInDim S256x1024x256 ![0, 1, 2] bcast_S1x1x256_S256x1024x256_0_1_2
        (broadcastInDim S1x1x256 ![2] bcast_S256_S1x1x256_2 BE))) W)
    (broadcastInDim S256x1024x64 ![0, 1, 2] bcast_S1x1x64_S256x1024x64_0_1_2
      (broadcastInDim S1x1x64 ![2] bcast_S64_S1x1x64_2 B1))

/-- The logits, from the hidden units. -/
def logits (H : FVec Ideal S256x1024x64 .f32) (W2 : FVec Ideal S64 .f32) (B2 : FVec Ideal S_ .f32) :
    FVec Ideal S256x1024 .f32 :=
  addf (Host.dotGeneral dot_S256x1024x64_S64_S256x1024_2_0_01_n_n_n none
    (mulf (mulf (broadcastInDim S256x1024x64 ![] bcast_S_S256x1024x64 (constant S_ .f32 0x3F000000#32)) H)
      (Host.erfc (mulf (Host.negf H)
        (broadcastInDim S256x1024x64 ![] bcast_S_S256x1024x64 (constant S_ .f32 0x3F3504F3#32))))) W2)
    (broadcastInDim S256x1024 ![] bcast_S_S256x1024 B2)

/-- The exponentials of the logits less the sample's largest. -/
def exps (L : FVec Ideal S256x1024 .f32) : FVec Ideal S256x1024 .f32 :=
  Host.exp (subf L (broadcastInDim S256x1024 ![0, 1] bcast_S256x1_S256x1024_0_1
    (broadcastInDim S256x1 ![0] bcast_S256_S256x1_0
      (maximumf (broadcastInDim S256 ![] bcast_S_S256 (constant S_ .f32 0xFF800000#32))
        (Host.reduce FloatOps.maximumf L (constant S_ .f32 0xFF800000#32) reducesTo_S256x1024_S256_d1 h_S_)))))

/-- The attention weights, from the logits. -/
def weights (L : FVec Ideal S256x1024 .f32) : FVec Ideal S256x1024 .f32 :=
  Host.divf (exps L) (broadcastInDim S256x1024 ![0, 1] bcast_S256x1_S256x1024_0_1
    (broadcastInDim S256x1 ![0] bcast_S256_S256x1_0
      (Host.reduceAdd (exps L) (constant S_ .f32 0x00000000#32) reducesTo_S256x1024_S256_d1 h_S_)))

/-- The summaries, from the weights and the tokens. -/
def summaries (Wt : FVec Ideal S256x1024 .f32) (X : FVec Ideal S256x1024x256 .f32) : FVec Ideal S256x256 .f32 :=
  Host.dotGeneral dot_S256x1024_S256x1024x256_S256x256_1_1_n_2_0_0 none Wt X

/-- A token's mean. -/
theorem means_apply (X : FVec Ideal S256x1024x256 .f32) (b : Fin 256) (n : Fin 1024) :
    means X (ix3 b n 0) = rMean fun d => X (ix3 b n d) := by
  pointwise [means]
  rfl

/-- A centred token's feature. -/
theorem centred_apply (X : FVec Ideal S256x1024x256 .f32) (b : Fin 256) (n : Fin 1024) (d : Fin 256) :
    centred X (ix3 b n d) = X (ix3 b n d) - rMean fun d => X (ix3 b n d) := by
  rw [← means_apply]
  pointwise [centred]

/-- A token's variance. -/
theorem variances_apply (X : FVec Ideal S256x1024x256 .f32) (b : Fin 256) (n : Fin 1024) :
    variances X (ix3 b n 0) = rVar fun d => X (ix3 b n d) := by
  pointwise [variances]
  simp only [centred_apply]
  rfl

/-- A token's hidden unit before its activation. -/
theorem hidden_apply (X : FVec Ideal S256x1024x256 .f32) (G BE : FVec Ideal S256 .f32) (W : FVec Ideal S256x64 .f32)
    (B1 : FVec Ideal S64 .f32) (b : Fin 256) (n : Fin 1024) (h : Fin 64) :
    hidden X G BE W B1 (ix3 b n h)
      = rHidden (fun d => G (ix1 d)) (fun d => BE (ix1 d)) (fun d h => W (ix2 d h)) (fun h => B1 (ix1 h))
          (fun d => X (ix3 b n d)) h := by
  pointwise [hidden]
  simp only [centred_apply, variances_apply]
  rfl

/-- A token's logit. -/
theorem logits_apply (X : FVec Ideal S256x1024x256 .f32) (G BE : FVec Ideal S256 .f32) (W : FVec Ideal S256x64 .f32)
    (B1 W2 : FVec Ideal S64 .f32) (B2 : FVec Ideal S_ .f32) (b : Fin 256) (n : Fin 1024) :
    logits (hidden X G BE W B1) W2 B2 (ix2 b n)
      = rLogit (fun d => G (ix1 d)) (fun d => BE (ix1 d)) (fun d h => W (ix2 d h)) (fun h => B1 (ix1 h))
          (fun h => W2 (ix1 h)) (B2 ix0) (fun d => X (ix3 b n d)) := by
  pointwise [logits]
  simp only [hidden_apply]
  rfl

/-- An exponential of a logit less the sample's largest. -/
theorem exps_apply (L : FVec Ideal S256x1024 .f32) (b : Fin 256) (n : Fin 1024) :
    exps L (ix2 b n) = Ideal.exp (L (ix2 b n) - top fun k => L (ix2 b k)) := by
  pointwise [exps]
  rw [max_eq_right (Finset.le_fold_max _ |>.2 (Or.inl le_rfl))]
  rfl

/-- A sample's weight at token `n`. -/
theorem weights_apply (L : FVec Ideal S256x1024 .f32) (b : Fin 256) (n : Fin 1024) :
    weights L (ix2 b n) = softmax (fun k => L (ix2 b k)) n := by
  pointwise [weights]
  simp only [exps_apply]
  rfl

/-- A sample's summary at feature `d`. -/
theorem summaries_apply (Wt : FVec Ideal S256x1024 .f32) (X : FVec Ideal S256x1024x256 .f32) (b d : Fin 256) :
    summaries Wt X (ix2 b d) = ∑ n, Wt (ix2 b n) * X (ix3 b n d) := by
  pointwise [summaries]

/-- The reference's second result is the weights of the logits of the arguments. -/
theorem res_out1_eq (m : (ℓ : Loc nD τ sig) → Buf (Elt Ideal) ℓ) (c : Dev nD) :
    res_out1 m c = weights (logits (hidden (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4))) (m ((c.tc : Thread nD τ).loc main_arg5))
        (m ((c.tc : Thread nD τ).loc main_arg6))) := rfl

/-- The reference's first result sums the tokens by those weights. -/
theorem res_out0_eq (m : (ℓ : Loc nD τ sig) → Buf (Elt Ideal) ℓ) (c : Dev nD) :
    res_out0 m c = summaries (res_out1 m c) (m ((c.tc : Thread nD τ).loc main_arg0)) := rfl

end Cert.ReferenceIdeal.Value
-- ==== Proof.Token.lean ====
/- The equation: for a token, scale and first weight matrix that are real, the kernel's logit is the reference's. The
   variance from the mean of the squares is the mean of the squared distances, the normalisation moves past the first
   product, and the error function is odd. The shift, both biases and the second weights may be any extended reals. -/
module

public import proofs.«01_k».proof.Proof.Spec
public import Idealize.ShloMosaic.Lib.IdealHost
public import Idealize.ShloMosaic.PureOps.Ideal.Laws

@[expose] public section

noncomputable section

open Idealize.ShloMosaic

namespace Cert.AttnPool

/-! ### The literals' values -/

/-- `litInv` is one over 256. -/
theorem litInv_eq : litInv = ((1 / 256 : ℝ) : EReal) := by
  simp [litInv, Ideal.ofBits, Ideal.ieee, -EReal.coe_mul]; norm_num

/-- `litD` is 256. -/
theorem litD_eq : litD = ((256 : ℝ) : EReal) := by
  simp [litD, Ideal.ofBits, Ideal.ieee, -EReal.coe_mul]; norm_num

/-- `litHalf` is one half. -/
theorem litHalf_eq : litHalf = ((1 / 2 : ℝ) : EReal) := by
  simp [litHalf, Ideal.ofBits, Ideal.ieee, -EReal.coe_mul]; norm_num

/-- `litEps` is a positive real. -/
theorem litEps_eq : ∃ e : ℝ, 0 < e ∧ litEps = (e : EReal) :=
  ⟨10995116 * 2 ^ (-40 : ℤ), by positivity, by
    simp [litEps, Ideal.ofBits, Ideal.ieee, -EReal.coe_mul]⟩

/-- `litOne8` is one. -/
theorem litOne8_eq : litOne8 = 1 := by
  rw [show (1 : EReal) = ((1 : ℝ) : EReal) by norm_cast]
  simp [litOne8, Ideal.ofBits, Ideal.e4m3fn, -EReal.coe_mul]; norm_num

/-- `litOne` is one. -/
theorem litOne_eq : litOne = 1 := Ideal.ofBits_one_f32

/-! ### Extended reals -/

/-- A sum of reals is real. -/
theorem coe_sum {ι : Type} (s : Finset ι) (f : ι → ℝ) : ∑ i ∈ s, (f i : EReal) = ((∑ i ∈ s, f i : ℝ) : EReal) :=
  (map_sum (⟨⟨Real.toEReal, EReal.coe_zero⟩, EReal.coe_add⟩ : ℝ →+ EReal) f s).symm

/-- A real multiplier distributes over a sum with a real term, whatever the other term. -/
theorem coe_add_mul_coe (a w : ℝ) (b : EReal) : ((a : EReal) + b) * (w : EReal) = ((a * w : ℝ) : EReal) + b * w := by
  induction b with
  | coe r => norm_cast; ring
  | top =>
    rw [EReal.coe_add_top]
    rcases lt_trichotomy w 0 with h | h | h
    · rw [EReal.top_mul_coe_of_neg h, EReal.add_bot]
    · subst h; simp
    · rw [EReal.top_mul_coe_of_pos h, EReal.coe_add_top]
  | bot =>
    rw [EReal.add_bot]
    rcases lt_trichotomy w 0 with h | h | h
    · rw [EReal.bot_mul_coe_of_neg h, EReal.coe_add_top]
    · subst h; simp
    · rw [EReal.bot_mul_coe_of_pos h, EReal.add_bot]

/-- The error function's values are real. -/
theorem erf_real (x : EReal) : ∃ e : ℝ, Ideal.erf x = (e : EReal) := by
  induction x with
  | coe r => exact ⟨_, Ideal.erf_coe r⟩
  | top => exact ⟨1, by simp⟩
  | bot => exact ⟨-1, by simp⟩

/-! ### The activation -/

/-- The GELU written with `erf` is the one written with `erfc` of the negation, at every extended real. -/
theorem gelu_eq (y : EReal) :
    y * (litHalf * Ideal.erf (y * litInvSqrt2) + litHalf) = litHalf * y * Ideal.erfc (-y * litInvSqrt2) := by
  rw [EReal.neg_mul, Ideal.erfc_neg]
  obtain ⟨e, he⟩ := erf_real (y * litInvSqrt2)
  rw [he, litHalf_eq, mul_comm (((1 / 2 : ℝ)) : EReal) y, mul_assoc]
  congr 1
  norm_cast
  ring

/-! ### The normalisation -/

/-- The mean of the squares less the square of the mean is the mean of the squared distances to the mean. -/
theorem variance_eq (X : Fin 256 → ℝ) :
    (∑ d, X d * X d) * (1 / 256) - (∑ d, X d) * (1 / 256) * ((∑ d, X d) * (1 / 256))
      = (∑ d, (X d - (∑ k, X k) * (1 / 256)) * (X d - (∑ k, X k) * (1 / 256))) * (1 / 256) := by
  generalize hS : ∑ d, X d = S
  have : ∀ d, (X d - S * (1 / 256)) * (X d - S * (1 / 256))
      = X d * X d - (2 * (S * (1 / 256))) * X d + S * (1 / 256) * (S * (1 / 256)) := fun d => by ring
  simp only [this, Finset.sum_add_distrib, Finset.sum_sub_distrib, ← Finset.mul_sum, hS, Finset.sum_const,
    Finset.card_univ, Fintype.card_fin, nsmul_eq_mul]
  push_cast
  ring

/-- The kernel's mean of a real token. -/
theorem kMean_coe (g : Fin 256 → EReal) (W : Fin 256 → Fin 64 → EReal) (X : Fin 256 → ℝ) :
    kMean (augmented g W) (fun d => (X d : EReal)) = (((∑ d, X d) * (1 / 256) : ℝ) : EReal) := by
  have h : ∀ d, augmented g W d 64 = 1 := fun d => litOne_eq
  simp only [kMean, h, one_mul, litInv_eq, coe_sum, ← EReal.coe_mul]

/-- The reference's mean of a real token. -/
theorem rMean_coe (X : Fin 256 → ℝ) :
    rMean (fun d => (X d : EReal)) = (((∑ d, X d) * (1 / 256) : ℝ) : EReal) := by
  rw [rMean, litD_eq, Ideal.div_coe (by norm_num), coe_sum, ← EReal.coe_mul]

/-- The reference's variance of a real token. -/
theorem rVar_coe (X : Fin 256 → ℝ) :
    rVar (fun d => (X d : EReal))
      = (((∑ d, (X d - (∑ k, X k) * (1 / 256)) * (X d - (∑ k, X k) * (1 / 256))) * (1 / 256) : ℝ) : EReal) := by
  rw [rVar, rMean_coe, litD_eq, Ideal.div_coe (by norm_num)]
  simp only [← EReal.coe_sub, ← EReal.coe_mul, coe_sum]

/-- Of a real token, the kernel's reciprocal standard deviation is the reference's, and it is real. -/
theorem rs_coe (g : Fin 256 → EReal) (W : Fin 256 → Fin 64 → EReal) (X : Fin 256 → ℝ) :
    ∃ r : ℝ, kRs (augmented g W) (fun d => (X d : EReal)) = (r : EReal)
      ∧ Ideal.rsqrt (rVar (fun d => (X d : EReal)) + litEps) = (r : EReal) := by
  obtain ⟨e, he, hE⟩ := litEps_eq
  have hk : kRs (augmented g W) (fun d => (X d : EReal)) = Ideal.rsqrt (rVar (fun d => (X d : EReal)) + litEps) := by
    rw [kRs, kMean_coe, rVar_coe, ← variance_eq]
    simp only [litOne8_eq, one_mul, litInv_eq, ← EReal.coe_mul, coe_sum, ← EReal.coe_sub]
  rw [hk, rVar_coe, hE, ← EReal.coe_add]
  have hpos : 0 < (∑ d, (X d - (∑ k, X k) * (1 / 256)) * (X d - (∑ k, X k) * (1 / 256))) * (1 / 256) + e :=
    add_pos_of_nonneg_of_pos (mul_nonneg (Finset.sum_nonneg fun d _ => mul_self_nonneg _) (by norm_num)) he
  rw [Ideal.rsqrt_coe, if_neg hpos.le.not_gt, if_neg hpos.ne']
  exact ⟨_, rfl, rfl⟩

/-- Of a real token, scale and first weight matrix, the kernel's hidden unit is the reference's. -/
theorem hidden_eq (G X : Fin 256 → ℝ) (W : Fin 256 → Fin 64 → ℝ) (be : Fin 256 → EReal) (b1 : Fin 64 → EReal)
    (h : Fin 64) :
    kHidden (augmented (fun d => (G d : EReal)) fun d h => (W d h : EReal))
        (fun h => ∑ d, (G d : EReal) * (W d h : EReal)) (fun h => (∑ d, be d * (W d h : EReal)) + b1 h)
        (fun d => (X d : EReal)) h
      = rHidden (fun d => (G d : EReal)) be (fun d h => (W d h : EReal)) b1 (fun d => (X d : EReal)) h := by
  obtain ⟨r, hr, hr'⟩ := rs_coe (fun d => (G d : EReal)) (fun d h => (W d h : EReal)) X
  have ha : ∀ d, augmented (fun d => (G d : EReal)) (fun d h => (W d h : EReal)) d (h.castLE (by decide))
      = ((W d h * G d : ℝ) : EReal) := fun d => by
    rw [augmented, dif_pos (show ((h.castLE _ : Fin 65) : Nat) < 64 from h.isLt)]; rfl
  rw [kHidden, rHidden, hr, hr', kMean_coe, rMean_coe]
  generalize hM : (∑ d, X d) * (1 / 256 : ℝ) = M
  simp only [ha, ← EReal.coe_mul, ← EReal.coe_sub, coe_sum, coe_add_mul_coe, Finset.sum_add_distrib]
  rw [← add_assoc]
  congr 3
  rw [Finset.mul_sum, Finset.mul_sum, ← Finset.sum_sub_distrib]
  exact Finset.sum_congr rfl fun d _ => by ring

/-- Of a real token, scale and first weight matrix, the kernel's logit is the reference's. -/
theorem logit_eq (G X : Fin 256 → ℝ) (W : Fin 256 → Fin 64 → ℝ) (be : Fin 256 → EReal) (b1 w2 : Fin 64 → EReal)
    (b2 : EReal) :
    argLogit (fun d => (G d : EReal)) be (fun d h => (W d h : EReal)) b1 w2 b2 (fun d => (X d : EReal))
      = rLogit (fun d => (G d : EReal)) be (fun d h => (W d h : EReal)) b1 w2 b2 (fun d => (X d : EReal)) := by
  unfold argLogit kLogit rLogit
  simp only [hidden_eq, gelu_eq]
  congr 1
  exact Finset.sum_congr rfl fun h _ => mul_comm _ _

end Cert.AttnPool
-- ==== Proof.Finite.lean ====
/- The precondition read back: the tokens, the LayerNorm gain and the hidden layer's weights hold real numbers. -/
module

public import proofs.«01_k».proof.Defs
public import proofs.«01_k».proof.Proof.Gen.Pre_inputs_finite
public import Idealize.ShloMosaic.Lib.ReduceAll
public import Idealize.ShloMosaic.Lib.Pointwise

@[expose] public section

noncomputable section

open Idealize.ShloMosaic

namespace Cert.AttnPool

/-- A number whose absolute value lies below the constant `+∞` is a real number. -/
theorem real_of_below {x : EReal}
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have ht : (FloatOps.ofBits (F := Ideal) .f32 0x7F800000#32 : EReal) = ⊤ := by
    simp [Ideal.ofBits, Ideal.ieee]
  have hlt : max x (-x) < (⊤ : EReal) := ht ▸ ((Ideal.cmp_olt_eq_one _ _).1 h : max x (-x) < _)
  obtain ⟨h1, h2⟩ := max_lt_iff.1 hlt
  exact ⟨x.toReal, (EReal.coe_toReal h1.ne fun hb => by simp [hb] at h2).symm⟩

end Cert.AttnPool

namespace Cert.Pre_inputs_finite

open Cert.AttnPool

variable [Facts]

/-- The precondition's test came out true: every token, every gain and every hidden weight is a real number. -/
theorem reals (X : FVec Ideal S256x1024x256 .f32) (G B : FVec Ideal S256 .f32) (W : FVec Ideal S256x64 .f32)
    (b1 w2 : FVec Ideal S64 .f32) (b2 : FVec Ideal S_ .f32) (h : fn (F := Ideal) X G B W b1 w2 b2 = fun _ => 1#1) :
    (∀ i, ∃ r : ℝ, X i = (r : EReal)) ∧ (∀ i, ∃ r : ℝ, G i = (r : EReal)) ∧ ∀ i, ∃ r : ℝ, W i = (r : EReal) := by
  have h0 := congrFun h ix0
  dsimp only [fn] at h0
  obtain ⟨h1, hW⟩ := IntOp.andi_eq_one.1 h0
  obtain ⟨hX, hG⟩ := IntOp.andi_eq_one.1 h1
  exact ⟨fun i => real_of_below (Host.reduce_andi_all _ _ _ _ _ hX i), fun i => real_of_below (Host.reduce_andi_all _ _ _ _ _ hG i),
    fun i => real_of_below (Host.reduce_andi_all _ _ _ _ _ hW i)⟩

end Cert.Pre_inputs_finite

end
-- ==== Proof.Equation.lean ====
/- The equation: on arguments that satisfy the precondition, the kernel's two results are the reference's. -/
module

public import proofs.«01_k».proof.Proof.Result
public import proofs.«01_k».proof.Proof.Reference
public import proofs.«01_k».proof.Proof.Token
public import proofs.«01_k».proof.Proof.Finite

@[expose] public section

set_option maxRecDepth 16384

noncomputable section

open Idealize.ShloMosaic Idealize.ShloMosaic.TcCoe Idealize.SL.Sem
open Cert.KernelIdeal Cert.AttnPool

namespace Cert.KernelIdeal.Value

variable (m : (ℓ : Loc nD τ sig) → Buf (Elt Ideal) ℓ) (hpre : Cert.Pre_KernelIdeal_inputs_finite m) (c : Dev nD)

include hpre in
/-- Every token's logit in the kernel is the logit the reference gives that token. -/
theorem tokenLogit_eq (b : Fin 256) (n : Fin 1024) :
    tokenLogit m c b n = ReferenceIdeal.Value.logits (ReferenceIdeal.Value.hidden (argX m c) (argG m c) (argBE m c) (argW m c) (argB1 m c))
      (argW2 m c) (argB2 m c) (ix2 b n) := by
  obtain ⟨hX, hG, hW⟩ := Cert.Pre_inputs_finite.reals _ _ _ _ _ _ _ (hpre c)
  choose X hX using hX
  choose G hG using hG
  choose W hW using hW
  rw [ReferenceIdeal.Value.logits_apply]
  unfold tokenLogit
  simp only [show ∀ i, argX m c i = (X i : EReal) from hX, show ∀ i, argG m c i = (G i : EReal) from hG,
    show ∀ i, argW m c i = (W i : EReal) from hW]
  exact logit_eq _ _ _ _ _ _ _

include hpre in
/-- The kernel's attention weights are the reference's. -/
theorem attention_eq : attention m c = ReferenceIdeal.Value.weights (ReferenceIdeal.Value.logits
    (ReferenceIdeal.Value.hidden (argX m c) (argG m c) (argBE m c) (argW m c) (argB1 m c)) (argW2 m c) (argB2 m c)) := by
  funext i
  idx_vars i
  rw [ReferenceIdeal.Value.weights_apply]
  exact congrArg (fun l => softmax l _) (funext fun n => tokenLogit_eq m hpre c _ n)

/-- The kernel's summaries are the reference's sums of the tokens at the kernel's attention weights. -/
theorem summary_eq : summary m c = ReferenceIdeal.Value.summaries (attention m c) (argX m c) := by
  funext i
  idx_vars i
  rw [ReferenceIdeal.Value.summaries_apply]
  rfl

/-- The two programs' memories agree on the seven arguments of every device. -/
abbrev SameArguments (m' : (ℓ : Loc ReferenceIdeal.nD ReferenceIdeal.τ ReferenceIdeal.sig) → Buf (Elt Ideal) ℓ) : Prop :=
  ∀ c : Dev nD,
    m' ((c.tc : Thread ReferenceIdeal.nD ReferenceIdeal.τ).loc ReferenceIdeal.main_arg0) = m ((c.tc : Thread nD τ).loc main_arg0)
    ∧ m' ((c.tc : Thread ReferenceIdeal.nD ReferenceIdeal.τ).loc ReferenceIdeal.main_arg1) = m ((c.tc : Thread nD τ).loc main_arg1)
    ∧ m' ((c.tc : Thread ReferenceIdeal.nD ReferenceIdeal.τ).loc ReferenceIdeal.main_arg2) = m ((c.tc : Thread nD τ).loc main_arg2)
    ∧ m' ((c.tc : Thread ReferenceIdeal.nD ReferenceIdeal.τ).loc ReferenceIdeal.main_arg3) = m ((c.tc : Thread nD τ).loc main_arg3)
    ∧ m' ((c.tc : Thread ReferenceIdeal.nD ReferenceIdeal.τ).loc ReferenceIdeal.main_arg4) = m ((c.tc : Thread nD τ).loc main_arg4)
    ∧ m' ((c.tc : Thread ReferenceIdeal.nD ReferenceIdeal.τ).loc ReferenceIdeal.main_arg5) = m ((c.tc : Thread nD τ).loc main_arg5)
    ∧ m' ((c.tc : Thread ReferenceIdeal.nD ReferenceIdeal.τ).loc ReferenceIdeal.main_arg6) = m ((c.tc : Thread nD τ).loc main_arg6)

variable (m' : (ℓ : Loc ReferenceIdeal.nD ReferenceIdeal.τ ReferenceIdeal.sig) → Buf (Elt Ideal) ℓ) (hagree : SameArguments m m')

include hpre hagree in
/-- The reference's second result is the kernel's attention weights. -/
theorem reference_attention : ReferenceIdeal.Value.res_out1 m' c = attention m c := by
  obtain ⟨h0, h1, h2, h3, h4, h5, h6⟩ := hagree c
  rw [ReferenceIdeal.Value.res_out1_eq, h0, h1, h2, h3, h4, h5, h6]
  exact (attention_eq m hpre c).symm

include hpre hagree in
/-- The reference's first result is the kernel's summaries. -/
theorem reference_summary : ReferenceIdeal.Value.res_out0 m' c = summary m c := by
  rw [ReferenceIdeal.Value.res_out0_eq, reference_attention m hpre c m' hagree, (hagree c).1]
  exact (summary_eq m c).symm

end Cert.KernelIdeal.Value

end
-- ==== Proof.lean ====
/- The claims about the pooling kernel, assembled: the program as printed and its idealised twin terminate with their
   arguments unchanged and every counter at zero, so does the reference, the twin is the program's own idealisation,
   and on finite tokens, gains and hidden weights the twin's two results equal the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_inputs_finite
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The printed kernel terminates from any memory with its arguments unchanged and every counter at zero. -/
theorem kernel_frame : Cert.quiescent_Kernel := fun m g _ => Cert.Kernel.Gen.frame m g

/-- So does its idealised twin. -/
theorem twin_frame : Cert.quiescent_KernelIdeal := fun m g _ => Cert.KernelIdeal.Gen.frame m g

/-- So does the reference, which declares no counter. -/
theorem reference_frame : Cert.quiescent_ReferenceIdeal := fun m g _ =>
  (θ_run Cert.ReferenceIdeal.defs _ _).mono
    (fun r h => ⟨fun c => (h c).2.2, Idealize.ShloMosaic.sem_eq_zero_of_no_sems (by decide) r.2⟩)
    (Cert.ReferenceIdeal.Value.run m g)

/-- On finite tokens, gains and hidden weights, the idealised kernel and the reference end with the same summaries and
    the same attention weights. -/
theorem algebraic : Cert.algebraic_KernelIdeal_ReferenceIdeal_pre_inputs_finite := by
  pair_intro
  · run_from Cert.KernelIdeal.Value.run m g & Cert.KernelIdeal.Gen.unchanged m g
  · run_from Cert.ReferenceIdeal.Value.run m' g'
    · exact Cert.KernelIdeal.Value.reference_summary m hpre c m' hagree
    · exact Cert.KernelIdeal.Value.reference_attention m hpre c m' hagree

/-- Every claim. The frames hold of every memory, so in particular of one that satisfies the precondition. -/
theorem claim : Cert.Claim :=
  ⟨Cert.Kernel.Gen.facts, Cert.KernelIdeal.Gen.facts, Cert.ReferenceIdeal.Gen.facts, Cert.Pre_inputs_finite.Gen.facts,
    kernel_frame, twin_frame, fun m g _ => twin_frame m g trivial, reference_frame, fun m g _ => reference_frame m g trivial,
    trivial, algebraic⟩

end Cert.Proof

end
